-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x96x14x14 : Shape := ⟨4, ![2048, 96, 14, 14]⟩
abbrev S2048x96x16x16 : Shape := ⟨4, ![2048, 96, 16, 16]⟩
abbrev S16x96x14x14 : Shape := ⟨4, ![16, 96, 14, 14]⟩
abbrev S16x96x16x16 : Shape := ⟨4, ![16, 96, 16, 16]⟩

abbrev nBuf : Space → Nat
  | .hbm => 2
  | .vmem => 4
  | .smem => 0
  | _ => 0

abbrev bufTy : (tb : Table) → Fin (tcTables nBuf tb) → BufTy
  | .hbm, ⟨0, _⟩ => ⟨S2048x96x14x14, .f32⟩
  | .hbm, ⟨1, _⟩ => ⟨S2048x96x16x16, .f32⟩
  | .local _ .vmem, ⟨0, _⟩ => ⟨S16x96x14x14, .f32⟩
  | .local _ .vmem, ⟨1, _⟩ => ⟨S16x96x14x14, .f32⟩
  | .local _ .vmem, ⟨2, _⟩ => ⟨S16x96x16x16, .f32⟩
  | .local _ .vmem, ⟨3, _⟩ => ⟨S16x96x16x16, .f32⟩
  | _, _ => ⟨S2048x96x14x14, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![128], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S16x96x14x14 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x96x16x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== ReferenceIdeal.lean ====
abbrev S2048x96x14x14 : Shape := ⟨4, ![2048, 96, 14, 14]⟩
abbrev S_ : Shape := ⟨0, ![]⟩
abbrev S2048x96x16x16 : Shape := ⟨4, ![2048, 96, 16, 16]⟩
abbrev S16 : Shape := ⟨1, ![16]⟩
abbrev S1x16 : Shape := ⟨2, ![1, 16]⟩
abbrev S8x16 : Shape := ⟨2, ![8, 16]⟩
abbrev S128 : Shape := ⟨1, ![128]⟩
abbrev S8 : Shape := ⟨1, ![8]⟩
abbrev S128x1 : Shape := ⟨2, ![128, 1]⟩
abbrev S128x2 : Shape := ⟨2, ![128, 2]⟩
abbrev S128x96x1x16 : Shape := ⟨4, ![128, 96, 1, 16]⟩
abbrev S128x96x16 : Shape := ⟨3, ![128, 96, 16]⟩
abbrev S128x96x16x1 : Shape := ⟨4, ![128, 96, 16, 1]⟩

abbrev nBuf : Space → Nat
  | .hbm => 116
  | .vmem => 0
  | .smem => 0
  | _ => 0

abbrev bufTy : (tb : Table) → Fin (tcTables nBuf tb) → BufTy
  | .hbm, ⟨0, _⟩ => ⟨S2048x96x14x14, .f32⟩
  | .hbm, ⟨1, _⟩ => ⟨S_, .f32⟩
  | .hbm, ⟨2, _⟩ => ⟨S_, .f32⟩
  | .hbm, ⟨3, _⟩ => ⟨S2048x96x16x16, .f32⟩
  | .hbm, ⟨4, _⟩ => ⟨S16, .i32⟩
  | .hbm, ⟨5, _⟩ => ⟨S_, .i32⟩
  | .hbm, ⟨6, _⟩ => ⟨S16, .i32⟩
  | .hbm, ⟨7, _⟩ => ⟨S16, .i32⟩
  | .hbm, ⟨8, _⟩ => ⟨S_, .i32⟩
  | .hbm, ⟨9, _⟩ => ⟨S16, .i32⟩
  | .hbm, ⟨10, _⟩ => ⟨S16, .i32⟩
  | .hbm, ⟨11, _⟩ => ⟨S1x16, .i32⟩
  | .hbm, ⟨12, _⟩ => ⟨S8x16, .i32⟩
  | .hbm, ⟨13, _⟩ => ⟨S128, .i32⟩
  | .hbm, ⟨14, _⟩ => ⟨S8, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S_, .i32⟩
  | .hbm, ⟨19, _⟩ => ⟨S8, .i32⟩
  | .hbm, ⟨20, _⟩ => ⟨S8, .i32⟩
  | .hbm, ⟨21, _⟩ => ⟨S8x16, .i32⟩
  | .hbm, ⟨22, _⟩ => ⟨S128, .i32⟩
  | .hbm, ⟨23, _⟩ => ⟨S128, .i32⟩
  | .hbm, ⟨24, _⟩ => ⟨S16, .i32⟩
  | .hbm, ⟨25, _⟩ => ⟨S_, .i32⟩
  | .hbm, ⟨26, _⟩ => ⟨S16, .i32⟩
  | .hbm, ⟨27, _⟩ => ⟨S16, .i32⟩
  | .hbm, ⟨28, _⟩ => ⟨S_, .i32⟩
  | .hbm, ⟨29, _⟩ => ⟨S16, .i32⟩
  | .hbm, ⟨30, _⟩ => ⟨S16, .i32⟩
  | .hbm, ⟨31, _⟩ => ⟨S1x16, .i32⟩
  | .hbm, ⟨32, _⟩ => ⟨S8x16, .i32⟩
  | .hbm, ⟨33, _⟩ => ⟨S128, .i32⟩
  | .hbm, ⟨34, _⟩ => ⟨S8, .i32⟩
  | .hbm, ⟨35, _⟩ => ⟨S_, .i32⟩
  | .hbm, ⟨36, _⟩ => ⟨S8, .i32⟩
  | .hbm, ⟨37, _⟩ => ⟨S8, .i32⟩
  | .hbm, ⟨38, _⟩ => ⟨S_, .i32⟩
  | .hbm, ⟨39, _⟩ => ⟨S8, .i32⟩
  | .hbm, ⟨40, _⟩ => ⟨S8, .i32⟩
  | .hbm, ⟨41, _⟩ => ⟨S8x16, .i32⟩
  | .hbm, ⟨42, _⟩ => ⟨S128, .i32⟩
  | .hbm, ⟨43, _⟩ => ⟨S128, .i32⟩
  | .hbm, ⟨44, _⟩ => ⟨S128, .i32⟩
  | .hbm, ⟨45, _⟩ => ⟨S_, .i32⟩
  | .hbm, ⟨46, _⟩ => ⟨S128, .i32⟩
  | .hbm, ⟨47, _⟩ => ⟨S128, .i32⟩
  | .hbm, ⟨48, _⟩ => ⟨S_, .i32⟩
  | .hbm, ⟨49, _⟩ => ⟨S128, .i32⟩
  | .hbm, ⟨50, _⟩ => ⟨S128, .i32⟩
  | .hbm, ⟨51, _⟩ => ⟨S128, .i32⟩
  | .hbm, ⟨52, _⟩ => ⟨S_, .i32⟩
  | .hbm, ⟨53, _⟩ => ⟨S128, .i32⟩
  | .hbm, ⟨54, _⟩ => ⟨S128, .i32⟩
  | .hbm, ⟨55, _⟩ => ⟨S_, .i32⟩
  | .hbm, ⟨56, _⟩ => ⟨S128, .i32⟩
  | .hbm, ⟨57, _⟩ => ⟨S128, .i32⟩
  | .hbm, ⟨58, _⟩ => ⟨S_, .i32⟩
  | .hbm, ⟨59, _⟩ => ⟨S128, .i32⟩
  | .hbm, ⟨60, _⟩ => ⟨S128, .i1⟩
  | .hbm, ⟨61, _⟩ => ⟨S_, .i32⟩
  | .hbm, ⟨62, _⟩ => ⟨S128, .i32⟩
  | .hbm, ⟨63, _⟩ => ⟨S128, .i32⟩
  | .hbm, ⟨64, _⟩ => ⟨S128, .i32⟩
  | .hbm, ⟨65, _⟩ => ⟨S128x1, .i32⟩
  | .hbm, ⟨66, _⟩ => ⟨S_, .i32⟩
  | .hbm, ⟨67, _⟩ => ⟨S128x1, .i32⟩
  | .hbm, ⟨68, _⟩ => ⟨S128x2, .i32⟩
  | .hbm, ⟨69, _⟩ => ⟨S_, .f32⟩
  | .hbm, ⟨70, _⟩ => ⟨S128x96x1x16, .f32⟩
  | .hbm, ⟨71, _⟩ => ⟨S2048x96x16x16, .f32⟩
  | .hbm, ⟨72, _⟩ => ⟨S_, .i32⟩
  | .hbm, ⟨73, _⟩ => ⟨S128, .i32⟩
  | .hbm, ⟨74, _⟩ => ⟨S128, .i1⟩
  | .hbm, ⟨75, _⟩ => ⟨S_, .i32⟩
  | .hbm, ⟨76, _⟩ => ⟨S128, .i32⟩
  | .hbm, ⟨77, _⟩ => ⟨S128, .i32⟩
  | .hbm, ⟨78, _⟩ => ⟨S128, .i32⟩
  | .hbm, ⟨79, _⟩ => ⟨S_, .i32⟩
  | .hbm, ⟨80, _⟩ => ⟨S128, .i32⟩
  | .hbm, ⟨81, _⟩ => ⟨S128, .i32⟩
  | .hbm, ⟨82, _⟩ => ⟨S128x1, .i32⟩
  | .hbm, ⟨83, _⟩ => ⟨S128x1, .i32⟩
  | .hbm, ⟨84, _⟩ => ⟨S128x2, .i32⟩
  | .hbm, ⟨85, _⟩ => ⟨S_, .f32⟩
  | .hbm, ⟨86, _⟩ => ⟨S128x96x16, .f32⟩
  | .hbm, ⟨87, _⟩ => ⟨S2048x96x16x16, .f32⟩
  | .hbm, ⟨88, _⟩ => ⟨S_, .i32⟩
  | .hbm, ⟨89, _⟩ => ⟨S128, .i32⟩
  | .hbm, ⟨90, _⟩ => ⟨S128, .i1⟩
  | .hbm, ⟨91, _⟩ => ⟨S_, .i32⟩
  | .hbm, ⟨92, _⟩ => ⟨S128, .i32⟩
  | .hbm, ⟨93, _⟩ => ⟨S128, .i32⟩
  | .hbm, ⟨94, _⟩ => ⟨S128, .i32⟩
  | .hbm, ⟨95, _⟩ => ⟨S128x1, .i32⟩
  | .hbm, ⟨96, _⟩ => ⟨S_, .i32⟩
  | .hbm, ⟨97, _⟩ => ⟨S128x1, .i32⟩
  | .hbm, ⟨98, _⟩ => ⟨S128x2, .i32⟩
  | .hbm, ⟨99, _⟩ => ⟨S_, .f32⟩
  | .hbm, ⟨100, _⟩ => ⟨S128x96x16x1, .f32⟩
  | .hbm, ⟨101, _⟩ => ⟨S2048x96x16x16, .f32⟩
  | .hbm, ⟨102, _⟩ => ⟨S_, .i32⟩
  | .hbm, ⟨103, _⟩ => ⟨S128, .i32⟩
  | .hbm, ⟨104, _⟩ => ⟨S128, .i1⟩
  | .hbm, ⟨105, _⟩ => ⟨S_, .i32⟩
  | .hbm, ⟨106, _⟩ => ⟨S128, .i32⟩
  | .hbm, ⟨107, _⟩ => ⟨S128, .i32⟩
  | .hbm, ⟨108, _⟩ => ⟨S128, .i32⟩
  | .hbm, ⟨109, _⟩ => ⟨S128x1, .i32⟩
  | .hbm, ⟨110, _⟩ => ⟨S_, .i32⟩
  | .hbm, ⟨111, _⟩ => ⟨S128x1, .i32⟩
  | .hbm, ⟨112, _⟩ => ⟨S128x2, .i32⟩
  | .hbm, ⟨113, _⟩ => ⟨S_, .f32⟩
  | .hbm, ⟨114, _⟩ => ⟨S128x96x16x1, .f32⟩
  | .hbm, ⟨115, _⟩ => ⟨S2048x96x16x16, .f32⟩
  | _, _ => ⟨S2048x96x14x14, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_1 : Ref sig .tc := ⟨.hbm, 15, rfl⟩
abbrev main_v10 : Ref sig .tc := ⟨.hbm, 16, rfl⟩
abbrev main_v11 : Ref sig .tc := ⟨.hbm, 17, rfl⟩
abbrev main_c_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_3 : Ref sig .tc := ⟨.hbm, 25, rfl⟩
abbrev main_v18 : Ref sig .tc := ⟨.hbm, 26, rfl⟩
abbrev main_v19 : Ref sig .tc := ⟨.hbm, 27, rfl⟩
abbrev main_c_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_c_5 : Ref sig .tc := ⟨.hbm, 35, rfl⟩
abbrev main_v26 : Ref sig .tc := ⟨.hbm, 36, rfl⟩
abbrev main_v27 : Ref sig .tc := ⟨.hbm, 37, rfl⟩
abbrev main_c_6 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_c_7 : Ref sig .tc := ⟨.hbm, 45, rfl⟩
abbrev main_v34 : Ref sig .tc := ⟨.hbm, 46, rfl⟩
abbrev main_v35 : Ref sig .tc := ⟨.hbm, 47, rfl⟩
abbrev main_c_8 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_9 : Ref sig .tc := ⟨.hbm, 52, rfl⟩
abbrev main_v39 : Ref sig .tc := ⟨.hbm, 53, rfl⟩
abbrev main_v40 : Ref sig .tc := ⟨.hbm, 54, rfl⟩
abbrev main_c_10 : Ref sig .tc := ⟨.hbm, 55, rfl⟩
abbrev main_v41 : Ref sig .tc := ⟨.hbm, 56, rfl⟩
abbrev main_v42 : Ref sig .tc := ⟨.hbm, 57, rfl⟩
abbrev main_c_11 : Ref sig .tc := ⟨.hbm, 58, rfl⟩
abbrev main_v43 : Ref sig .tc := ⟨.hbm, 59, rfl⟩
abbrev main_v44 : Ref sig .tc := ⟨.hbm, 60, rfl⟩
abbrev main_c_12 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_c_13 : Ref sig .tc := ⟨.hbm, 66, rfl⟩
abbrev main_v49 : Ref sig .tc := ⟨.hbm, 67, rfl⟩
abbrev main_v50 : Ref sig .tc := ⟨.hbm, 68, rfl⟩
abbrev main_cst_14 : Ref sig .tc := ⟨.hbm, 69, rfl⟩
abbrev main_v51 : Ref sig .tc := ⟨.hbm, 70, rfl⟩
abbrev main_v52 : Ref sig .tc := ⟨.hbm, 71, rfl⟩
abbrev main_c_15 : Ref sig .tc := ⟨.hbm, 72, rfl⟩
abbrev main_v53 : Ref sig .tc := ⟨.hbm, 73, rfl⟩
abbrev main_v54 : Ref sig .tc := ⟨.hbm, 74, rfl⟩
abbrev main_c_16 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_17 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_18 : Ref sig .tc := ⟨.hbm, 85, rfl⟩
abbrev main_v63 : Ref sig .tc := ⟨.hbm, 86, rfl⟩
abbrev main_v64 : Ref sig .tc := ⟨.hbm, 87, rfl⟩
abbrev main_c_19 : Ref sig .tc := ⟨.hbm, 88, rfl⟩
abbrev main_v65 : Ref sig .tc := ⟨.hbm, 89, rfl⟩
abbrev main_v66 : Ref sig .tc := ⟨.hbm, 90, rfl⟩
abbrev main_c_20 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_21 : Ref sig .tc := ⟨.hbm, 96, rfl⟩
abbrev main_v71 : Ref sig .tc := ⟨.hbm, 97, rfl⟩
abbrev main_v72 : Ref sig .tc := ⟨.hbm, 98, rfl⟩
abbrev main_cst_22 : Ref sig .tc := ⟨.hbm, 99, rfl⟩
abbrev main_v73 : Ref sig .tc := ⟨.hbm, 100, rfl⟩
abbrev main_v74 : Ref sig .tc := ⟨.hbm, 101, rfl⟩
abbrev main_c_23 : Ref sig .tc := ⟨.hbm, 102, rfl⟩
abbrev main_v75 : Ref sig .tc := ⟨.hbm, 103, rfl⟩
abbrev main_v76 : Ref sig .tc := ⟨.hbm, 104, rfl⟩
abbrev main_c_24 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_c_25 : Ref sig .tc := ⟨.hbm, 110, rfl⟩
abbrev main_v81 : Ref sig .tc := ⟨.hbm, 111, rfl⟩
abbrev main_v82 : Ref sig .tc := ⟨.hbm, 112, rfl⟩
abbrev main_cst_26 : Ref sig .tc := ⟨.hbm, 113, rfl⟩
abbrev main_v83 : Ref sig .tc := ⟨.hbm, 114, rfl⟩
abbrev main_v84 : Ref sig .tc := ⟨.hbm, 115, rfl⟩

abbrev nD : Nat := 1
abbrev τ : Topo := Topo.v7x

variable {F : FTy → Type} [FloatOps F]
-- ==== Proof.Border.lean ====
/- Hand-written, untrusted. The mathematics of the problem, free of any program: a stack of 14 × 14 planes with a border of
   one value around each (`bordered`), how it is cut into blocks of planes, what `stablehlo.pad` computes, and why
   scattering the border's own value onto the border changes nothing. -/
module

public import Idealize.ShloMosaic.PureOps
public import Idealize.ShloMosaic.Lib.ValueIdxCore
public import Idealize.ShloMosaic.Lib.KernelVsHost
public import Idealize.ShloMosaic.Lib.Routing.OpsSet

@[expose] public section

namespace Cert.Border

open Idealize.ShloMosaic Idealize.ShloMosaic.ValueIdx

/-- The planes without their border, `n` images of 96 channels, -/
abbrev Inner (n : Nat) : Shape := ⟨4, ![n, 96, 14, 14]⟩
/-- and with it. -/
abbrev Outer (n : Nat) : Shape := ⟨4, ![n, 96, 16, 16]⟩

variable {α : Type} {n : Nat}

/-- Row and column of `y` are off the border of the 16 × 16 plane. -/
def Inside (y : (Outer n).Idx) : Prop := (1 ≤ (y 2).val ∧ (y 2).val < 15) ∧ 1 ≤ (y 3).val ∧ (y 3).val < 15

instance (y : (Outer n).Idx) : Decidable (Inside y) := by unfold Inside; infer_instance

/-- The position in the 14 × 14 plane of an element off the border: one row up, one column to the left. -/
def shifted (y : (Outer n).Idx) (h : Inside y) : (Inner n).Idx :=
  ix4 (y 0) (y 1) (⟨(y 2).val - 1, by have := h.1; omega⟩ : Fin 14) (⟨(y 3).val - 1, by have := h.2; omega⟩ : Fin 14)

/-- Each plane of `x` in the middle of a 16 × 16 plane, with `z` on the border. -/
def bordered (z : α) (x : (Inner n).Idx → α) : (Outer n).Idx → α :=
  fun y => if h : Inside y then x (shifted y h) else z

/-- Off the border: the plane's element. -/
theorem bordered_inside (z : α) (x : (Inner n).Idx → α) (y : (Outer n).Idx) (h : Inside y) :
    bordered z x y = x (shifted y h) := dif_pos h

/-- On the border: `z`. -/
theorem bordered_outside (z : α) (x : (Inner n).Idx → α) (y : (Outer n).Idx) (h : ¬ Inside y) :
    bordered z x y = z := dif_neg h

/-- A block of planes, bordered, is that block of the bordered planes: if `x'` is `x` at the images `f k`, then its bordered
    planes are `x`'s bordered planes at those images. -/
theorem bordered_block {k : Nat} (z : α) (x : (Inner n).Idx → α) (x' : (Inner k).Idx → α) (f : Fin k → Fin n)
    (hx : ∀ a b c d, x' (ix4 a b c d) = x (ix4 (f a) b c d)) (y : (Outer k).Idx) :
    bordered z x' y = bordered z x (ix4 (f (y 0)) (y 1) (y 2) (y 3)) := by
  by_cases h : Inside y
  · rw [bordered_inside z x' y h, bordered_inside z x (ix4 (f (y 0)) (y 1) (y 2) (y 3)) h]
    exact hx _ _ _ _
  · rw [bordered_outside z x' y h, bordered_outside z x (ix4 (f (y 0)) (y 1) (y 2) (y 3)) h]

/-- A coordinate at least 1 whose distance from 1 is under 14 lies in the middle 14 of 16. -/
theorem in_range (v : Nat) (h1 : 1 ≤ v) (h2 : (v - 1) / (0 + 1) < 14) : 1 ≤ v ∧ v < 15 := by
  rw [Nat.zero_add, Nat.div_one] at h2
  omega

/-- `stablehlo.pad` by one on each side of the last two axes computes the bordered planes. -/
theorem pad_eq_bordered (x : (Inner n).Idx → α) {u : Shape} (v : u.Idx → α)
    (h : (Inner n).Pads (![0, 0, 1, 1] : Fin 4 → Nat) ![0, 0, 1, 1] ![0, 0, 0, 0] (Outer n)) (hu : 0 < u.numel) :
    pad (Outer n) (![0, 0, 1, 1] : Fin 4 → Nat) ![0, 0, 1, 1] ![0, 0, 0, 0] x v h hu = bordered (v (Shape.Idx.first hu)) x := by
  funext y
  by_cases hy : Inside y
  · rw [bordered_inside _ _ _ hy]
    refine pad_apply_of_inside _ _ _ x v h hu y (shifted y hy) fun a => ?_
    obtain ⟨⟨h2, -⟩, h3, -⟩ := hy
    fin_cases a
    · show (y 0).val = 0 + (y 0).val * (0 + 1); omega
    · show (y 1).val = 0 + (y 1).val * (0 + 1); omega
    · show (y 2).val = 1 + ((y 2).val - 1) * (0 + 1); omega
    · show (y 3).val = 1 + ((y 3).val - 1) * (0 + 1); omega
  · rw [bordered_outside _ _ _ hy]
    by_cases h2 : 1 ≤ (y 2).val ∧ (y 2).val < 15
    · have h3 : ¬ (1 ≤ (y 3).val ∧ (y 3).val < 15) := fun h3 => hy ⟨h2, h3⟩
      refine pad_apply_of_not_inside _ _ _ x v h hu y (3 : Fin 4) fun hk => h3 ?_
      exact in_range (y 3).val hk.1 hk.2.2
    · refine pad_apply_of_not_inside _ _ _ x v h hu y (2 : Fin 4) fun hk => h2 ?_
      exact in_range (y 2).val hk.1 hk.2.2

/-- Scattering (the update replacing the element) `z` at elements that hold `z` already changes nothing: not the index words, not
    their repetitions, not the order matter. -/
theorem scatter_same {s si u : Shape} {w : Nat} (d : ScatterDims s si u) (x : s.Idx → α) (idx : IVec si w) (upd : u.Idx → α) (z : α)
    (hu : ∀ k, upd k = z) (hx : ∀ k i, d.resultIdx? k idx = some i → x i = z) :
    Host.scatter d (fun _ b => b) x idx upd = x := by
  funext i
  by_cases h : ∃ k, d.resultIdx? k idx = some i
  · obtain ⟨k, hk⟩ := h
    rw [Routing.scatter_set_hit d x idx upd i z (fun k _ => hu k) k hk, hx k i hk]
  · exact Routing.scatter_set_miss d x idx upd i fun k hk => h ⟨k, hk⟩

/-- Where an update lands, on one axis: at the window's start plus the coordinate inside the window. -/
theorem landing_coord {s si u : Shape} {w : Nat} (d : ScatterDims s si u) (k : u.Idx) (idx : IVec si w) (i : s.Idx)
    (h : d.resultIdx? k idx = some i) (a : Fin s.rank) : ((i a).val : Int) = d.start k idx a + d.window k a := by
  unfold ScatterDims.resultIdx? at h
  split at h
  · next hin =>
    cases h
    exact Int.toNat_of_nonneg (hin a).1
  · cases h

end Cert.Border
-- ==== Proof.Body.lean ====
/- Hand-written, untrusted. What the kernel's body does at one grid point: it zeroes the output's staging buffer, then stores
   the input's block into the middle of it; so it leaves the block's planes with a border of zeros. -/
module

public import proofs.«01_k».proof.Proof.Gen.KernelIdeal.Frame
public import proofs.«01_k».proof.Proof.Gen.KernelIdeal.Skeleton
public import proofs.«01_k».proof.Proof.Border
public import Idealize.ShloMosaic.Lib.WritesUnit
public import Idealize.ShloMosaic.Lib.VecWindow
public import Idealize.ShloMosaic.Lib.Pipeline.Frame
public import Idealize.ShloMosaic.Lib.Pipeline.FrameBody
public import Idealize.ShloMosaic.Lib.Tactic

@[expose] public section

noncomputable section

namespace Cert.KernelIdeal.Hand

open Cert.KernelIdeal Cert.KernelIdeal.Gen Cert.Border
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- The value on the border: the kernel's float literal 0.0. -/
def zero : F .f32 := Scalar.ofBits .f32 0x00000000#32

/-- What the output's staging buffer reads after the body's two stores, whatever it held: the input block's planes with zeros
    around them. -/
theorem stores_bordered {κ : Kind} {sp : Space} (v : View sig κ sp S16x96x16x16 .f32) (f : v.ty.Contents (Elt F))
    (hmid : ∀ a, (![0, 0, 1, 1] : Fin 4 → ℕ) a + S16x96x14x14.size a ≤ S16x96x16x16.size a)
    (hall : ∀ a, (![0, 0, 0, 0] : Fin 4 → ℕ) a + S16x96x16x16.size a ≤ S16x96x16x16.size a) (x : Vec F S16x96x14x14 .f32) :
    v.read (Elt F) (v.writes (Elt F) f [⟨Rect.unit ![0, 0, 1, 1] S16x96x14x14.size hmid, x⟩,
      ⟨Rect.unit ![0, 0, 0, 0] S16x96x16x16.size hall, k0_pay1⟩]) = bordered zero x := by
  funext y
  by_cases hy : Inside y
  · rw [bordered_inside _ _ _ hy]
    refine View.read_writes_cons_unit_of_mem v f hmid x _ y (shifted y hy) rfl fun a => ?_
    obtain ⟨⟨h2, -⟩, h3, -⟩ := hy
    fin_cases a
    · show (y 0).val = 0 + (y 0).val; omega
    · show (y 1).val = 0 + (y 1).val; omega
    · show (y 2).val = 1 + ((y 2).val - 1); omega
    · show (y 3).val = 1 + ((y 3).val - 1); omega
  · rw [bordered_outside _ _ _ hy]
    have hmiss : ∃ a : Fin 4, (y a).val < (![0, 0, 1, 1] : Fin 4 → ℕ) a
        ∨ (![0, 0, 1, 1] : Fin 4 → ℕ) a + S16x96x14x14.size a ≤ (y a).val := by
      by_cases h2 : 1 ≤ (y 2).val ∧ (y 2).val < 15
      · refine ⟨3, ?_⟩
        show (y 3).val < 1 ∨ 1 + 14 ≤ (y 3).val
        have h3 : ¬ (1 ≤ (y 3).val ∧ (y 3).val < 15) := fun h3 => hy ⟨h2, h3⟩
        omega
      · refine ⟨2, ?_⟩
        show (y 2).val < 1 ∨ 1 + 14 ≤ (y 2).val
        omega
    obtain ⟨a, ha⟩ := hmiss
    rw [View.read_writes_cons_unit_of_not_mem v f hmid x _ y rfl a ha, View.read_writes_full]
    rfl

/-- The body's triple: on whole staging buffers, the input's at `x` and the output's at anything, the body runs to its return
    with the input's as it was and the output's at the planes of `x` bordered by zeros. -/
theorem body_run (c : Dev nD) (i : grid0.Coords) (arg1 : Memref sig .tc .vmem S16x96x14x14 .f32) (harg1 : arg1.IsWhole)
    (arg2 : Memref sig .tc .vmem S16x96x16x16 .f32) (harg2 : arg2.IsWhole) (x : Vec F S16x96x14x14 .f32) (E : Set ℕ) (K : PUnit → sProp 𝕄) :
    iprop(owns (c : Thread nD τ) arg1 fullShare x ∗ (∃ d, owns (c : Thread nD τ) arg2 fullShare d)
        ∗ (iprop(owns (c : Thread nD τ) arg1 fullShare x ∗ owns (c : Thread nD τ) arg2 fullShare (bordered zero x)) -∗ K ⟨⟩))
      ⊢ wp frame (wpE (defs₀ (F := F)) Variants.none c none) E (cc0__pad_kernel i arg1 harg1 arg2 harg2) K := by
  simp only [cc0__pad_kernel_eq_skeleton]; unfold cc0__pad_kernel_skel
  unfold owns
  iintro ⟨⟨%f0, %hf0, H0⟩, ⟨%d1, %f1, -, H1⟩, Hk⟩
  obtain rfl := harg1.eq_unread hf0
  sl_exec
  sl_step
  iapply Hk
  isplitl [H0]
  · iexists _; isplitr; · ipureintro; exact harg1.read_unread _
    iexact H0
  iexists _; isplitr; swap; · iexact H1
  ipureintro
  rw [View.readAt_full, hf0]
  exact stores_bordered arg2.view f1 _ _ x

end Cert.KernelIdeal.Hand

end
-- ==== Proof.Launch.lean ====
/- Hand-written, untrusted. The whole launch of the idealized kernel, from the body's triple (Body.lean): the pipeline's proof
   data, the run, the frame. (The set-up follows the shape every staged kernel's has.) -/
module

public import proofs.«01_k».proof.Proof.Body
public import proofs.«01_k».proof.Proof.Gen.KernelIdeal.Launch
public import Idealize.ShloMosaic.Lib.Claim

@[expose] public section

noncomputable section

namespace Cert.KernelIdeal.Hand

open Cert.KernelIdeal Cert.KernelIdeal.Gen Cert.Border
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the pipeline's proof is told of core `c`: the arrays are those the launch starts from; the body leaves at point `t` the
    input's buffer at its block and the output's at that block's planes bordered by zeros. -/
def data (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => bordered zero (iblk m c 0 t)
  Φ _ := Pipeline.ΦA spec0 c
  q _ := fullShare
  owed _ := 0

/-- The arrays are those the launch starts from. -/
theorem data_arrays (c : Dev nD) (w : Fin cfg0.W) : (data m 0 c).A w = V m c (Pipeline.arrRef spec0 w) := by
  dsimp only [data]

/-- The body leaves the input's block in place, -/
theorem data_after_in (c : Dev nD) (t : Fin cfg0.N) : (data m 0 c).after 0 t = iblk m c 0 t := by dsimp only [data]

/-- and its bordered planes in the output's buffer. -/
theorem data_after_out (c : Dev nD) (t : Fin cfg0.N) : (data m 0 c).after 1 t = bordered zero (iblk m c 0 t) := by
  dsimp only [data]

/-- When the body starts, the input's buffer holds its block. -/
theorem data_before_in (c : Dev nD) (t : Fin cfg0.N) (d) : (data m 0 c).before 0 t d = iblk m c 0 t :=
  before0_0_of m (data m 0 c) (data_arrays m c 0) (data_after_in m c) t d

/-- What the body is given at point `t`, -/
def given (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d)))

/-- and what it gives back. -/
def returned (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t))

/-- The body at any point keeps the bargain. -/
theorem body_at (c : Dev nD) (t : Fin cfg0.N) :
    given m c t ⊢ wp frame (wpE (defs₀ (F := F)) Variants.none c none) Set.univ (bodyAt0 t) (fun _ => returned m c t) := by
  unfold given returned bodyAt0
  simp only [data_before_in]
  rw [show (data m 0 c).Φ t.succ = (data m 0 c).Φ t.castSucc from rfl,
    show (data m 0 c).owesAt () t.succ = (data m 0 c).owesAt () t.castSucc from rfl,
    data_after_in, data_after_out]
  iintro ⟨HΦ, Ho, ⟨%d0, H0⟩, ⟨%d1, H1⟩⟩
  iapply (body_run c (grid0.coords t) _ _ _ _ (iblk m c 0 t) Set.univ _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The body the table names at point `t` is the kernel's on the point's buffers. -/
theorem body_named (t : Fin cfg0.N) :
    defs₀ (F := F) .tc cfg0.body (cfg0.bodyArgs t (cfg0.slots t)) = bodyAt0 t := by
  unfold defs₀; rw [Defs.onTc_tc]

/-- The pipeline's obligation on its body. -/
theorem obligation (c : Dev nD) : BodyObligation (data (F := F) m 0 c) (defs₀ (F := F)) Variants.none () Set.univ := fun t => by
  rw [bigSep_W0, bigSep_W0, body_named]
  exact triple_restated (body_at m c t) rfl .rfl fun _ => .rfl

set_option backward.isDefEq.respectTransparency.types false in
/-- The launch terminates; the arrays then hold what the pipeline's write-backs left, and every semaphore is at zero. -/
theorem launched : θ_run defs (onTc (τ := τ) (main (F := F))) (s₀ m ρ)
    (fun r => Pipeline.FramePost cfgs (data m) 0 (V m) r ∧ r.2.sem = fun _ => 0) :=
  Pipeline.θ_run_frame (Q' := _) cfgs (data m) (0 : Fin 1) launch0 defs₀ Variants.none m ρ main
    (hbody := fun c => (obligation m c).loose) (hshare := fun c => (data m 0 c).share_full fun _ => rfl)
    (howed := fun _ _ => rfl) (V := V m) (hmain := hmain m Variants.none) (hA := data_arrays m) (hΦ := fun _ _ => rfl)

/-- The frame: the launch terminates with the argument unchanged and every semaphore at zero. -/
theorem frame_holds : θ_run defs (onTc (τ := τ) (main (F := F))) ⟨m, fun _ => 0, ρ⟩ (fun r =>
    (∀ c : Dev nD, r.2.mem ((c.tc : Thread nD τ).loc main_arg0) = m ((c.tc : Thread nD τ).loc main_arg0))
      ∧ r.2.sem = fun _ => 0) :=
  θ_run_and (frame_of m ρ (data m) (data_arrays m) ((θ_run defs _ _).mono (fun _ h => h.1) (launched m ρ)))
    ((θ_run defs _ _).mono (fun _ h => h.2) (launched m ρ))

end Cert.KernelIdeal.Hand

end
-- ==== Proof.Array.lean ====
/- Hand-written, untrusted. What the idealized kernel's result array holds when the launch ends: the argument's planes bordered
   by zeros. Grid point `t` writes images `16 t … 16 t + 15`; the 128 points' blocks tile the 2048 images. -/
module

public import proofs.«01_k».proof.Proof.Launch
public import Idealize.ShloMosaic.Lib.Pipeline.Value

@[expose] public section

noncomputable section

namespace Cert.KernelIdeal.Hand

open Cert.KernelIdeal Cert.KernelIdeal.Gen Cert.Border
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

/-- The argument's planes bordered by zeros. -/
def answer (c : Dev nD) : Buf (Elt F) ((c : Thread nD τ).loc main_v0) :=
  bordered (n := 2048) (zero : F .f32) (m ((c : Thread nD τ).loc main_arg0))

/-- Both windows' block at point `t` is number `t` along the images and the only one along the other axes. -/
theorem block_number (t : Fin grid0.N) : cc0_transform_0 (grid0.coords t) = ![t.val, 0, 0, 0] := by
  revert t; decide +kernel

/-- Image `k` of point `t`'s block, in the array. -/
def image (t : Fin grid0.N) (k : Fin 16) : Fin 2048 := ⟨16 * t.val + k.val, by
  have h : t.val < 128 := lt_of_lt_of_eq t.isLt N_0
  omega⟩

/-- The input's block at point `t` is those images of the argument. -/
theorem block_in (c : Dev nD) (t : Fin cfg0.N) (a : Fin 16) (b : Fin 96) (i j : Fin 14) :
    iblk m c 0 t (ix4 a b i j) = m ((c : Thread nD τ).loc main_arg0) (ix4 (image t a) b i j) := by
  refine congrArg (m ((c : Thread nD τ).loc main_arg0)) (funext fun d => Fin.ext ?_)
  show cc0_transform_0 (grid0.coords t) d * S16x96x14x14.size d + 1 * (ix4 (n0 := 16) (n1 := 96) a b i j d).val = _
  rw [block_number]
  fin_cases d
  · show t.val * 16 + 1 * a.val = 16 * t.val + a.val; omega
  · show 0 * 96 + 1 * b.val = b.val; omega
  · show 0 * 14 + 1 * i.val = i.val; omega
  · show 0 * 14 + 1 * j.val = j.val; omega

/-- What point `t` writes back is its block of the answer. -/
theorem written (c : Dev nD) (t : Fin cfg0.N) : (data m 0 c).flushed 1 t = (win0_1.blk t).view.read (Elt F) (answer m c) := by
  show (cfg0.win 1).cut (grid0.coords t) ((data m 0 c).after 1 t) = _
  rw [data_after_out]
  funext y
  refine (bordered_block zero (m ((c : Thread nD τ).loc main_arg0)) (iblk m c 0 t) (image t) (block_in m c t) y).trans ?_
  refine congrArg (answer m c) (funext fun d => Fin.ext ?_)
  show _ = cc0_transform_0 (grid0.coords t) d * S16x96x16x16.size d + 1 * (y d).val
  rw [block_number]
  fin_cases d
  · show 16 * t.val + (y 0).val = t.val * 16 + 1 * (y 0).val; omega
  · show (y 1).val = 0 * 96 + 1 * (y 1).val; omega
  · show (y 2).val = 0 * 16 + 1 * (y 2).val; omega
  · show (y 3).val = 0 * 16 + 1 * (y 3).val; omega

/-- The blocks tile the array: image `n` is in block `n / 16`. -/
theorem covered (i : S2048x96x16x16.Idx) : ∃ t : Fin cfg0.N, (cfg0.win 1).flush t = true ∧ i ∈ ((cfg0.win 1).blk t).view.set := by
  have h0 : (i 0).val < 2048 := (i 0).isLt
  have ht : (i 0).val / 16 < cfg0.N := by
    have : cfg0.N = 128 := N_0
    omega
  refine ⟨⟨(i 0).val / 16, ht⟩, flush0_1 _, ?_⟩
  show i ∈ ((View.whole main_v0).slice (win0_1.rect ⟨(i 0).val / 16, ht⟩)).set
  rw [View.set_slice_whole, Rect.mem_set_unit]
  intro a
  show cc0_transform_0 (grid0.coords ⟨(i 0).val / 16, ht⟩) a * S16x96x16x16.size a ≤ (i a).val
    ∧ (i a).val < cc0_transform_0 (grid0.coords ⟨(i 0).val / 16, ht⟩) a * S16x96x16x16.size a + S16x96x16x16.size a
  rw [block_number]
  have h1 : (i 1).val < 96 := (i 1).isLt
  have h2 : (i 2).val < 16 := (i 2).isLt
  have h3 : (i 3).val < 16 := (i 3).isLt
  fin_cases a
  · show (i 0).val / 16 * 16 ≤ (i 0).val ∧ (i 0).val < (i 0).val / 16 * 16 + 16
    omega
  · show 0 * 96 ≤ (i 1).val ∧ (i 1).val < 0 * 96 + 96
    omega
  · show 0 * 16 ≤ (i 2).val ∧ (i 2).val < 0 * 16 + 16
    omega
  · show 0 * 16 ≤ (i 3).val ∧ (i 3).val < 0 * 16 + 16
    omega

/-- So the result array ends at the answer, -/
theorem result_array (c : Dev nD) : (data m 0 c).arrAt 1 cfg0.N = answer m c :=
  (data m 0 c).arrAt_eq_of_cover 1 (answer m c) (fun t _ => written m c t) covered

/-- and the launch ends with the result at the answer and the argument unchanged. -/
theorem value_holds : θ_run defs (onTc (τ := τ) (main (F := F))) ⟨m, fun _ => 0, ρ⟩ (fun r => ∀ c : Dev nD,
    r.2.mem ((c : Thread nD τ).loc main_v0) = answer m c
      ∧ r.2.mem ((c : Thread nD τ).loc main_arg0) = m ((c : Thread nD τ).loc main_arg0)) :=
  (θ_run defs _ _).mono (fun _ h c => ⟨((h.1 c).1 1).trans (result_array m c),
    ((h.1 c).1 0).trans ((data m 0 c).arrAt_in 0 rfl _)⟩) (launched m ρ)

end Cert.KernelIdeal.Hand

end
-- ==== Proof.Same.lean ====
/- Hand-written, untrusted. The kernel and its idealization are one program, at any float values: nothing was rewritten. So what is
   proved of the launch of the one (Launch.lean) holds of the other. -/
module

public import proofs.«01_k».proof.Proof.Launch
public import proofs.«01_k».proof.Proof.Gen.Kernel

@[expose] public section

noncomputable section

namespace Cert.Kernel.Hand

open Cert.Kernel Cert.Kernel.Gen
open Idealize.ShloMosaic Idealize.SL.Sem

variable {F : FTy → Type} [FloatOps F]

/-- The two kernel bodies are the same, -/
theorem body_same : cc0__pad_kernel (F := F) = Cert.KernelIdeal.cc0__pad_kernel (F := F) := rfl

/-- so the tables of bodies the pipelines call are, -/
theorem bodies_same : defs₀ (F := F) = Cert.KernelIdeal.defs₀ (F := F) := by
  unfold defs₀ Cert.KernelIdeal.defs₀
  refine congrArg Defs.onTc (funext fun l => funext fun a => ?_)
  match l, a with
  | 0, (_, _) => exact congrFun (congrFun (congrFun (congrFun (congrFun body_same _) _) _) _) _

/-- so everything the main functions call is, -/
theorem defs_same : defs (F := F) = Cert.KernelIdeal.defs (F := F) :=
  congrArg (Pipeline.defs Cert.KernelIdeal.pcfgs) bodies_same

/-- and the main functions are. -/
theorem main_same : main (F := F) = Cert.KernelIdeal.main (F := F) := rfl

/-- The kernel's frame: it terminates with the argument unchanged and every semaphore at zero. -/
theorem frame_holds (m : (ℓ : Loc nD τ sig) → Buf (Elt F) ℓ) (ρ : Dev nD → PrngReg) :
    θ_run defs (onTc (τ := τ) (main (F := F))) ⟨m, fun _ => 0, ρ⟩ (fun r =>
      (∀ c : Dev nD, r.2.mem ((c.tc : Thread nD τ).loc main_arg0) = m ((c.tc : Thread nD τ).loc main_arg0))
        ∧ r.2.sem = fun _ => 0) := by
  rw [defs_same, main_same]
  exact Cert.KernelIdeal.Hand.frame_holds m ρ

end Cert.Kernel.Hand

end
-- ==== Proof.Reference.lean ====
/- Hand-written, untrusted. What the reference computes: its `pad` already yields the argument's planes bordered by zeros, and each of
   its four scatters stores zeros on row 0, row 15, column 0 or column 15 — on the border, where zeros are. -/
module

public import proofs.«01_k».proof.Proof.Gen.ReferenceIdeal.Run
public import proofs.«01_k».proof.Proof.Border
public import Idealize.ShloMosaic.Lib.Pipeline.Value
public import Idealize.ShloMosaic.Lib.Quiescent

@[expose] public section

noncomputable section

namespace Cert.ReferenceIdeal.Hand

open Cert.ReferenceIdeal Cert.ReferenceIdeal.Gen Cert.Border
open Idealize.ShloMosaic Idealize.ShloMosaic.TcCoe Idealize.ShloMosaic.ValueIdx Idealize.SL.Sem

variable {F : FTy → Type} [FloatOps F]
variable (m : (ℓ : Loc nD τ sig) → Buf (Elt F) ℓ) (ρ : Dev nD → PrngReg)

/-! ## The index words -/

/-- A table of index pairs (image, position) all of whose positions are the word `v`. -/
def PositionsAre (v : BitVec 32) (idx : IVec S128x2 32) : Prop := ∀ j : S128x2.Idx, (j 1).val = 1 → idx j = v

/-- Two columns side by side, the second constant, are such a table. -/
theorem positions_of_columns (a b : IVec S128x1 32) (v : BitVec 32) (hb : ∀ j, b j = v)
    (h : Shape.Concatenates [S128x1, S128x1] S128x2 1) :
    PositionsAre v (concatenate S128x2 1 [⟨S128x1, a⟩, ⟨S128x1, b⟩] h) := fun j hj => by
  refine (concatenate_pair_apply_right (s₁ := S128x1) (s₂ := S128x1) 1 a b h j rfl rfl (ix2 (j 0) (0 : Fin 1)) (fun d hd => ?_) ?_).trans (hb _)
  · fin_cases d
    · rfl
    · exact absurd rfl hd
  · show 0 + 1 = (j 1).val
    omega

/-! ## Where the scatters land -/

/-- The scatter of rows lands on the row named by the table's positions, -/
theorem lands_on_row (k : S128x96x1x16.Idx) (idx : IVec S128x2 32) (v : BitVec 32) (hv : PositionsAre v idx) (i : S2048x96x16x16.Idx)
    (h : scatter_S2048x96x16x16_S128x2_S128x96x1x16_123_0_02_1.resultIdx? k idx = some i) : ((i 2).val : Int) = v.toInt := by
  rw [landing_coord _ k idx i h 2]
  have hw : scatter_S2048x96x16x16_S128x2_S128x96x1x16_123_0_02_1.window k 2 = 0 := by
    have : (k 2).val < 1 := (k 2).isLt
    show (k 2).val = 0
    omega
  rw [hw]
  exact (Int.add_zero _).trans (congrArg BitVec.toInt (hv _ rfl))

/-- and so does the scatter of rows whose updates have no row axis; -/
theorem lands_on_row' (k : S128x96x16.Idx) (idx : IVec S128x2 32) (v : BitVec 32) (hv : PositionsAre v idx) (i : S2048x96x16x16.Idx)
    (h : scatter_S2048x96x16x16_S128x2_S128x96x16_12_02_02_1.resultIdx? k idx = some i) : ((i 2).val : Int) = v.toInt := by
  rw [landing_coord _ k idx i h 2]
  have hw : scatter_S2048x96x16x16_S128x2_S128x96x16_12_02_02_1.window k 2 = 0 := rfl
  rw [hw]
  exact (Int.add_zero _).trans (congrArg BitVec.toInt (hv _ rfl))

/-- the scatter of columns lands on the column named by the table's positions. -/
theorem lands_on_column (k : S128x96x16x1.Idx) (idx : IVec S128x2 32) (v : BitVec 32) (hv : PositionsAre v idx) (i : S2048x96x16x16.Idx)
    (h : scatter_S2048x96x16x16_S128x2_S128x96x16x1_123_0_03_1.resultIdx? k idx = some i) : ((i 3).val : Int) = v.toInt := by
  rw [landing_coord _ k idx i h 3]
  have hw : scatter_S2048x96x16x16_S128x2_S128x96x16x1_123_0_03_1.window k 3 = 0 := by
    have : (k 3).val < 1 := (k 3).isLt
    show (k 3).val = 0
    omega
  rw [hw]
  exact (Int.add_zero _).trans (congrArg BitVec.toInt (hv _ rfl))

/-! ## The scatters change nothing -/

/-- A word whose integer is the border's: 0 or 15. -/
def OnBorder (v : BitVec 32) : Prop := v.toInt = 0 ∨ v.toInt = 15

theorem zero_onBorder : OnBorder 0#32 := Or.inl rfl
theorem fifteen_onBorder : OnBorder 15#32 := Or.inr rfl

variable {α : Type} (z : α) (x : (Inner 2048).Idx → α) (idx : IVec S128x2 32) (v : BitVec 32)

/-- Storing the border's value on a border row of bordered planes, -/
theorem row_same (hv : PositionsAre v idx) (hb : OnBorder v) (upd : S128x96x1x16.Idx → α) (hu : ∀ k, upd k = z) :
    Host.scatter scatter_S2048x96x16x16_S128x2_S128x96x1x16_123_0_02_1 (fun _ b => b) (bordered z x) idx upd = bordered z x :=
  scatter_same _ _ idx upd z hu fun k i h => bordered_outside z x i fun hi => by
    have hl := lands_on_row k idx v hv i h
    obtain ⟨h2, -⟩ := hi
    rcases hb with hb | hb <;> rw [hb] at hl <;> omega

/-- in either spelling of the updates, -/
theorem row_same' (hv : PositionsAre v idx) (hb : OnBorder v) (upd : S128x96x16.Idx → α) (hu : ∀ k, upd k = z) :
    Host.scatter scatter_S2048x96x16x16_S128x2_S128x96x16_12_02_02_1 (fun _ b => b) (bordered z x) idx upd = bordered z x :=
  scatter_same _ _ idx upd z hu fun k i h => bordered_outside z x i fun hi => by
    have hl := lands_on_row' k idx v hv i h
    obtain ⟨h2, -⟩ := hi
    rcases hb with hb | hb <;> rw [hb] at hl <;> omega

/-- or on a border column, changes nothing. -/
theorem column_same (hv : PositionsAre v idx) (hb : OnBorder v) (upd : S128x96x16x1.Idx → α) (hu : ∀ k, upd k = z) :
    Host.scatter scatter_S2048x96x16x16_S128x2_S128x96x16x1_123_0_03_1 (fun _ b => b) (bordered z x) idx upd = bordered z x :=
  scatter_same _ _ idx upd z hu fun k i h => bordered_outside z x i fun hi => by
    have hl := lands_on_column k idx v hv i h
    obtain ⟨-, h3⟩ := hi
    rcases hb with hb | hb <;> rw [hb] at hl <;> omega

/-- Hence the reference's four scatters, one after the other, leave bordered planes as they are. -/
theorem four_same (p : (Outer 2048).Idx → α) (hp : p = bordered z x) (i₁ i₂ i₃ i₄ : IVec S128x2 32)
    (u₁ : S128x96x1x16.Idx → α) (u₂ : S128x96x16.Idx → α) (u₃ u₄ : S128x96x16x1.Idx → α)
    (h₁ : PositionsAre 0#32 i₁) (h₂ : PositionsAre 15#32 i₂) (h₃ : PositionsAre 0#32 i₃) (h₄ : PositionsAre 15#32 i₄)
    (hu₁ : ∀ k, u₁ k = z) (hu₂ : ∀ k, u₂ k = z) (hu₃ : ∀ k, u₃ k = z) (hu₄ : ∀ k, u₄ k = z) :
    Host.scatter scatter_S2048x96x16x16_S128x2_S128x96x16x1_123_0_03_1 (fun _ b => b)
      (Host.scatter scatter_S2048x96x16x16_S128x2_S128x96x16x1_123_0_03_1 (fun _ b => b)
        (Host.scatter scatter_S2048x96x16x16_S128x2_S128x96x16_12_02_02_1 (fun _ b => b)
          (Host.scatter scatter_S2048x96x16x16_S128x2_S128x96x1x16_123_0_02_1 (fun _ b => b) p i₁ u₁) i₂ u₂) i₃ u₃) i₄ u₄
      = bordered z x := by
  rw [hp, row_same z x i₁ _ h₁ zero_onBorder u₁ hu₁, row_same' z x i₂ _ h₂ fifteen_onBorder u₂ hu₂,
    column_same z x i₃ _ h₃ zero_onBorder u₃ hu₃, column_same z x i₄ _ h₄ fifteen_onBorder u₄ hu₄]

/-! ## The result -/

/-- The reference's result is the argument's planes bordered by its float literal 0.0. -/
theorem result_bordered (c : Dev nD) :
    Value.res_out0 m c = bordered (n := 2048) (Scalar.ofBits .f32 0x00000000#32 : F .f32) (m ((c : Thread nD τ).loc main_arg0)) := by
  show Value.res_main_v84 m c = _
  unfold Value.res_main_v84
  exact four_same _ _ _ (pad_eq_bordered _ _ _ _) _ _ _ _ _ _ _ _
    (positions_of_columns _ _ _ (fun _ => rfl) _) (positions_of_columns _ _ _ (fun _ => rfl) _)
    (positions_of_columns _ _ _ (fun _ => rfl) _) (positions_of_columns _ _ _ (fun _ => rfl) _)
    (fun _ => rfl) (fun _ => rfl) (fun _ => rfl) (fun _ => rfl)

/-- The reference's frame: it terminates with the argument unchanged and every semaphore at zero. -/
theorem frame_holds : θ_run defs (onTc (τ := τ) (main (F := F))) ⟨m, fun _ => 0, ρ⟩ (fun r =>
    (∀ c : Dev nD, r.2.mem ((c.tc : Thread nD τ).loc main_arg0) = m ((c.tc : Thread nD τ).loc main_arg0))
      ∧ r.2.sem = fun _ => 0) :=
  (θ_run defs _ _).mono (fun r h => ⟨fun c => (h c).2, sem_eq_zero_of_no_sems (by decide) r.2⟩) (Value.run m ρ)

end Cert.ReferenceIdeal.Hand

end
-- ==== Proof.lean ====
/- Hand-written, untrusted. The proof of `Cert.Claim` (Defs.lean): the three programs' frames, and the equation of the kernel's
   result with the reference's, each of them the argument's planes bordered by zeros (Proof/Array.lean, Proof/Reference.lean). -/
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Array
public import proofs.«01_k».proof.Proof.Same
public import proofs.«01_k».proof.Proof.Reference
public import Idealize.ShloMosaic.Adequacy
public import Idealize.ShloMosaic.Init

@[expose] public section

noncomputable section

namespace Cert.Proof

open Idealize.ShloMosaic Idealize.SL.Sem Cert.Border

/-- Launched on equal arguments, the idealized kernel and the reference end with equal results: the bordered planes. -/
theorem equation :
    Cert.algebraic_KernelIdeal_ReferenceIdeal (hKernelIdeal := Cert.KernelIdeal.Gen.facts) (hReferenceIdeal := Cert.ReferenceIdeal.Gen.facts) := by
  intro m g m' g' _ hargs
  refine ⟨fun c => Cert.KernelIdeal.Hand.answer (F := Ideal) m c, Cert.KernelIdeal.Hand.value_holds (F := Ideal) m g, ?_⟩
  refine (θ_run Cert.ReferenceIdeal.defs _ _).mono (fun r h c => ⟨((h c).1.trans (Cert.ReferenceIdeal.Hand.result_bordered m' c)).trans ?_, (h c).2⟩)
    (Cert.ReferenceIdeal.Value.run (F := Ideal) m' g')
  exact congrArg (bordered (n := 2048) (Cert.KernelIdeal.Hand.zero : Ideal .f32)) (hargs c)

/-- All five claims. -/
theorem claim : Cert.Claim := ⟨Cert.Kernel.Gen.facts, Cert.KernelIdeal.Gen.facts, Cert.ReferenceIdeal.Gen.facts,
  fun m ρ _ => Cert.Kernel.Hand.frame_holds (F := Bits) m ρ,
  fun m ρ _ => Cert.KernelIdeal.Hand.frame_holds (F := Ideal) m ρ,
  fun m ρ _ => Cert.ReferenceIdeal.Hand.frame_holds (F := Ideal) m ρ,
  trivial,
  equation⟩

end Cert.Proof

end
